-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S128x1x1536 : Shape := ⟨3, ![128, 1, 1536]⟩
abbrev S768x30592 : Shape := ⟨2, ![768, 30592]⟩
abbrev S48x30592 : Shape := ⟨2, ![48, 30592]⟩
abbrev S48x16x30592 : Shape := ⟨3, ![48, 16, 30592]⟩
abbrev S_ : Shape := ⟨0, ![]⟩

class Facts : Prop where
  natLt_8_32 : 8 < 32
  shapeCasts_S768x30592_S48x16x30592 : S768x30592.ShapeCasts S48x16x30592
  bcast_S_S48x16x30592 : S_.BroadcastsInDim S48x16x30592 (![] : Fin 0 → Fin S48x16x30592.rank)
  reducesTo_S48x16x30592_S48x30592_d1 : S48x16x30592.ReducesTo [1] S48x30592
  h_S_ : 0 < S_.numel
  bcast_S_S48x30592 : S_.BroadcastsInDim S48x30592 (![] : Fin 0 → Fin S48x30592.rank)
  reducesTo_S48x30592_S_d0_1 : S48x30592.ReducesTo [0, 1] S_

variable [Facts]

def fn {F : FTy → Type} [FloatOps F] (main_arg0 : FVec F S128x1x1536 .bf16) (main_arg1 : IVec S768x30592 8) (main_arg2 : IVec S48x30592 8) : IVec S_ 1 :=
  let main_v0 : IVec S768x30592 32 := (extui 32 · natLt_8_32) main_arg1
  let main_v1 : IVec S48x16x30592 32 := shapeCast S48x16x30592 main_v0 shapeCasts_S768x30592_S48x16x30592
  let main_c : IVec S_ 32 := constantI S_ 32 119#32
  let main_v2 : IVec S48x16x30592 32 := broadcastInDim S48x16x30592 ![] bcast_S_S48x16x30592 main_c
  let main_v3 : IVec S48x16x30592 32 := andi main_v1 main_v2
  let main_c_0 : IVec S_ 32 := constantI S_ 32 0#32
  let main_v4 : IVec S48x16x30592 32 := broadcastInDim S48x16x30592 ![] bcast_S_S48x16x30592 main_c_0
  let main_v5 : IVec S48x16x30592 1 := cmpi .eq main_v3 main_v4
  let main_c_1 : IVec S_ 1 := constantI S_ 1 1#1
  let main_v6 : IVec S48x30592 1 := (fun x v => Host.reduce IntOp.andi x v reducesTo_S48x16x30592_S48x30592_d1 h_S_) main_v5 main_c_1
  let main_c_2 : IVec S_ 8 := constantI S_ 8 0#8
  let main_v7 : IVec S48x30592 8 := broadcastInDim S48x30592 ![] bcast_S_S48x30592 main_c_2
  let main_v8 : IVec S48x30592 1 := cmpi .ne main_arg2 main_v7
  let main_c_3 : IVec S_ 8 := constantI S_ 8 255#8
  let main_v9 : IVec S48x30592 8 := broadcastInDim S48x30592 ![] bcast_S_S48x30592 main_c_3
  let main_v10 : IVec S48x30592 1 := cmpi .ne main_arg2 main_v9
  let main_v11 : IVec S48x30592 1 := andi main_v8 main_v10
  let main_v12 : IVec S48x30592 1 := ori main_v6 main_v11
  let main_c_4 : IVec S_ 1 := constantI S_ 1 1#1
  let main_v13 : IVec S_ 1 := (fun x v => Host.reduce IntOp.andi x v reducesTo_S48x30592_S_d0_1 h_S_) main_v12 main_c_4
  main_v13
-- ==== Kernel.lean ====
abbrev S128x1x1536 : Shape := ⟨3, ![128, 1, 1536]⟩
abbrev S768x30592 : Shape := ⟨2, ![768, 30592]⟩
abbrev S48x30592 : Shape := ⟨2, ![48, 30592]⟩
abbrev S128x1536 : Shape := ⟨2, ![128, 1536]⟩
abbrev S128x30592 : Shape := ⟨2, ![128, 30592]⟩
abbrev S768x2048 : Shape := ⟨2, ![768, 2048]⟩
abbrev S48x2048 : Shape := ⟨2, ![48, 2048]⟩
abbrev S128x2048 : Shape := ⟨2, ![128, 2048]⟩
abbrev S32x2048 : Shape := ⟨2, ![32, 2048]⟩
abbrev S64x2048 : Shape := ⟨2, ![64, 2048]⟩
abbrev S1x2048 : Shape := ⟨2, ![1, 2048]⟩
abbrev S16x2048 : Shape := ⟨2, ![16, 2048]⟩
abbrev S1536x2048 : Shape := ⟨2, ![1536, 2048]⟩
abbrev S128x1x30592 : Shape := ⟨3, ![128, 1, 30592]⟩

abbrev nBuf : Space → Nat
  | .hbm => 6
  | .vmem => 8
  | .smem => 0
  | _ => 0

abbrev bufTy : (tb : Table) → Fin (tcTables nBuf tb) → BufTy
  | .hbm, ⟨0, _⟩ => ⟨S128x1x1536, .bf16⟩
  | .hbm, ⟨1, _⟩ => ⟨S768x30592, .i8⟩
  | .hbm, ⟨2, _⟩ => ⟨S48x30592, .i8⟩
  | .hbm, ⟨3, _⟩ => ⟨S128x1536, .bf16⟩
  | .hbm, ⟨4, _⟩ => ⟨S128x30592, .bf16⟩
  | .hbm, ⟨5, _⟩ => ⟨S128x1x30592, .bf16⟩
  | .local _ .vmem, ⟨0, _⟩ => ⟨S128x1536, .bf16⟩
  | .local _ .vmem, ⟨1, _⟩ => ⟨S768x2048, .i8⟩
  | .local _ .vmem, ⟨2, _⟩ => ⟨S768x2048, .i8⟩
  | .local _ .vmem, ⟨3, _⟩ => ⟨S48x2048, .i8⟩
  | .local _ .vmem, ⟨4, _⟩ => ⟨S48x2048, .i8⟩
  | .local _ .vmem, ⟨5, _⟩ => ⟨S128x2048, .bf16⟩
  | .local _ .vmem, ⟨6, _⟩ => ⟨S128x2048, .bf16⟩
  | .local _ .vmem, ⟨7, _⟩ => ⟨S48x2048, .i32⟩
  | _, _ => ⟨S128x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x1x1536 : Shape := ⟨3, ![128, 1, 1536]⟩
abbrev S768x30592 : Shape := ⟨2, ![768, 30592]⟩
abbrev S48x30592 : Shape := ⟨2, ![48, 30592]⟩
abbrev S_ : Shape := ⟨0, ![]⟩
abbrev S1x48x1x30592 : Shape := ⟨4, ![1, 48, 1, 30592]⟩
abbrev S48x16x30592 : Shape := ⟨3, ![48, 16, 30592]⟩
abbrev S1x48x16x30592 : Shape := ⟨4, ![1, 48, 16, 30592]⟩
abbrev S2x48x16x30592 : Shape := ⟨4, ![2, 48, 16, 30592]⟩
abbrev S128x48x16x2 : Shape := ⟨4, ![128, 48, 16, 2]⟩
abbrev S128x30592 : Shape := ⟨2, ![128, 30592]⟩
abbrev S128x1x30592 : Shape := ⟨3, ![128, 1, 30592]⟩

abbrev nBuf : Space → Nat
  | .hbm => 67
  | .vmem => 0
  | .smem => 0
  | _ => 0

abbrev bufTy : (tb : Table) → Fin (tcTables nBuf tb) → BufTy
  | .hbm, ⟨0, _⟩ => ⟨S128x1x1536, .bf16⟩
  | .hbm, ⟨1, _⟩ => ⟨S768x30592, .i8⟩
  | .hbm, ⟨2, _⟩ => ⟨S48x30592, .i8⟩
  | .hbm, ⟨3, _⟩ => ⟨S48x30592, .i32⟩
  | .hbm, ⟨4, _⟩ => ⟨S_, .i32⟩
  | .hbm, ⟨5, _⟩ => ⟨S48x30592, .i32⟩
  | .hbm, ⟨6, _⟩ => ⟨S48x30592, .i32⟩
  | .hbm, ⟨7, _⟩ => ⟨S48x30592, .f32⟩
  | .hbm, ⟨8, _⟩ => ⟨S_, .f32⟩
  | .hbm, ⟨9, _⟩ => ⟨S48x30592, .f32⟩
  | .hbm, ⟨10, _⟩ => ⟨S48x30592, .f32⟩
  | .hbm, ⟨11, _⟩ => ⟨S48x30592, .bf16⟩
  | .hbm, ⟨12, _⟩ => ⟨S1x48x1x30592, .bf16⟩
  | .hbm, ⟨13, _⟩ => ⟨S768x30592, .i32⟩
  | .hbm, ⟨14, _⟩ => ⟨S48x16x30592, .i32⟩
  | .hbm, ⟨15, _⟩ => ⟨S_, .i32⟩
  | .hbm, ⟨16, _⟩ => ⟨S48x16x30592, .i32⟩
  | .hbm, ⟨17, _⟩ => ⟨S48x16x30592, .i32⟩
  | .hbm, ⟨18, _⟩ => ⟨S_, .i32⟩
  | .hbm, ⟨19, _⟩ => ⟨S48x16x30592, .i32⟩
  | .hbm, ⟨20, _⟩ => ⟨S48x16x30592, .i32⟩
  | .hbm, ⟨21, _⟩ => ⟨S1x48x16x30592, .i32⟩
  | .hbm, ⟨22, _⟩ => ⟨S1x48x16x30592, .i32⟩
  | .hbm, ⟨23, _⟩ => ⟨S2x48x16x30592, .i32⟩
  | .hbm, ⟨24, _⟩ => ⟨S_, .i32⟩
  | .hbm, ⟨25, _⟩ => ⟨S2x48x16x30592, .i32⟩
  | .hbm, ⟨26, _⟩ => ⟨S2x48x16x30592, .i32⟩
  | .hbm, ⟨27, _⟩ => ⟨S2x48x16x30592, .f32⟩
  | .hbm, ⟨28, _⟩ => ⟨S_, .i32⟩
  | .hbm, ⟨29, _⟩ => ⟨S2x48x16x30592, .i32⟩
  | .hbm, ⟨30, _⟩ => ⟨S2x48x16x30592, .i32⟩
  | .hbm, ⟨31, _⟩ => ⟨S_, .i32⟩
  | .hbm, ⟨32, _⟩ => ⟨S2x48x16x30592, .i32⟩
  | .hbm, ⟨33, _⟩ => ⟨S2x48x16x30592, .i32⟩
  | .hbm, ⟨34, _⟩ => ⟨S2x48x16x30592, .f32⟩
  | .hbm, ⟨35, _⟩ => ⟨S_, .f32⟩
  | .hbm, ⟨36, _⟩ => ⟨S2x48x16x30592, .f32⟩
  | .hbm, ⟨37, _⟩ => ⟨S2x48x16x30592, .i1⟩
  | .hbm, ⟨38, _⟩ => ⟨S_, .f32⟩
  | .hbm, ⟨39, _⟩ => ⟨S2x48x16x30592, .f32⟩
  | .hbm, ⟨40, _⟩ => ⟨S2x48x16x30592, .f32⟩
  | .hbm, ⟨41, _⟩ => ⟨S_, .f32⟩
  | .hbm, ⟨42, _⟩ => ⟨S2x48x16x30592, .f32⟩
  | .hbm, ⟨43, _⟩ => ⟨S2x48x16x30592, .f32⟩
  | .hbm, ⟨44, _⟩ => ⟨S_, .f32⟩
  | .hbm, ⟨45, _⟩ => ⟨S2x48x16x30592, .f32⟩
  | .hbm, ⟨46, _⟩ => ⟨S2x48x16x30592, .f32⟩
  | .hbm, ⟨47, _⟩ => ⟨S_, .f32⟩
  | .hbm, ⟨48, _⟩ => ⟨S2x48x16x30592, .f32⟩
  | .hbm, ⟨49, _⟩ => ⟨S2x48x16x30592, .f32⟩
  | .hbm, ⟨50, _⟩ => ⟨S_, .f32⟩
  | .hbm, ⟨51, _⟩ => ⟨S2x48x16x30592, .f32⟩
  | .hbm, ⟨52, _⟩ => ⟨S2x48x16x30592, .f32⟩
  | .hbm, ⟨53, _⟩ => ⟨S2x48x16x30592, .f32⟩
  | .hbm, ⟨54, _⟩ => ⟨S2x48x16x30592, .f32⟩
  | .hbm, ⟨55, _⟩ => ⟨S_, .i32⟩
  | .hbm, ⟨56, _⟩ => ⟨S2x48x16x30592, .i32⟩
  | .hbm, ⟨57, _⟩ => ⟨S2x48x16x30592, .i1⟩
  | .hbm, ⟨58, _⟩ => ⟨S2x48x16x30592, .f32⟩
  | .hbm, ⟨59, _⟩ => ⟨S2x48x16x30592, .f32⟩
  | .hbm, ⟨60, _⟩ => ⟨S2x48x16x30592, .bf16⟩
  | .hbm, ⟨61, _⟩ => ⟨S2x48x16x30592, .bf16⟩
  | .hbm, ⟨62, _⟩ => ⟨S2x48x16x30592, .bf16⟩
  | .hbm, ⟨63, _⟩ => ⟨S128x48x16x2, .bf16⟩
  | .hbm, ⟨64, _⟩ => ⟨S128x30592, .f32⟩
  | .hbm, ⟨65, _⟩ => ⟨S128x30592, .bf16⟩
  | .hbm, ⟨66, _⟩ => ⟨S128x1x30592, .bf16⟩
  | _, _ => ⟨S128x1x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.KernelFrame.lean ====
/-
  The frame of `Kernel`: the body of the kernel run once at any float values, and from it the run of @main. Of the result
  this file names nothing (its window is forgotten): it claims that the run ends, that the arguments end as they began and
  that every semaphore counter ends at zero. The run WITH the result's value is `IdealValue.lean`'s, at the exact values.
-/
module

public import proofs.«01_k».proof.Proof.Gen.Kernel.Frame
public import proofs.«01_k».proof.Proof.Gen.Kernel.Points
public import proofs.«01_k».proof.Proof.Gen.Kernel.Skeleton
public import Idealize.ShloMosaic.Lib.Pipeline.Frame
public import Idealize.ShloMosaic.Lib.Pipeline.FrameSuffix
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The scratch buffer of the scales' words, whole. -/
abbrev scM : Memref sig .tc .vmem S48x2048 .i32 := Memref.whole cc0_scratch0

/-- The body's triple: from the three operands' buffers at any contents and the result's and the scratch's at some, the body
    runs to its return; the operands' buffers hold what they held. -/
theorem kernelRun (c : Dev nD) (i : grid0.Coords) (arg1 : Memref sig .tc .vmem S128x1536 .bf16) (harg1 : arg1.IsWhole)
    (arg2 : Memref sig .tc .vmem S768x2048 .i8) (harg2 : arg2.IsWhole) (arg3 : Memref sig .tc .vmem S48x2048 .i8) (harg3 : arg3.IsWhole)
    (arg4 : Memref sig .tc .vmem S128x2048 .bf16) (harg4 : arg4.IsWhole)
    (X1 : S128x1536.Idx → Elt F .bf16) (X2 : S768x2048.Idx → Elt F .i8) (X3 : S48x2048.Idx → Elt F .i8) (K : PUnit → sProp 𝕄) :
    iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) scM fullShare d)
        ∗ (iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) scM fullShare d)) -∗ K ⟨⟩))
      ⊢ wp frame (wpE (defs₀ (F := F)) Variants.none c none) Set.univ
          (cc0_mxfp4_linear i arg1 harg1 arg2 harg2 arg3 harg3 arg4 harg4 scM (Memref.isWhole_whole _)) K := by
  simp only [cc0_mxfp4_linear_eq_skeleton]; unfold cc0_mxfp4_linear_skel
  unfold owns
  iintro ⟨⟨%f1, %h1, H1⟩, ⟨%f2, %h2, H2⟩, ⟨%f3, %h3, H3⟩, ⟨%d4, %f4, -, H4⟩, ⟨%ds, %fs, -, HS⟩, Hk⟩
  sl_exec_parts
  sl_step
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists _, _; isplitr; swap; · iexact H4
    ipureintro; rfl
  iexists _, _; isplitr; swap; · iexact HS
  ipureintro; rfl

/-! ## The proof data and the body obligation -/

/-- The result's window is forgotten. -/
def forgets0 : Fin 4 → Bool := ![false, false, false, true]

/-- The operand's block of code bytes at a grid point, filled out past the array's end (the last block overhangs). -/
def codeBlk (c : Dev nD) (t : Fin cfg0.N) : S768x2048.Idx → Elt F .i8 :=
  win0_1.fill (grid0.coords t) (fun _ => Classical.arbitrary _) (iblk m c 1 t)
/-- The operand's block of scale bytes at a grid point, filled out past the array's end. -/
def scaleBlk (c : Dev nD) (t : Fin cfg0.N) : S48x2048.Idx → Elt F .i8 :=
  win0_2.fill (grid0.coords t) (fun _ => Classical.arbitrary _) (iblk m c 2 t)

/-- The proof data: the arrays as the region finds them, the operands' blocks left in place, the result's not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => codeBlk m c t
    | ⟨2, _⟩ => scaleBlk m c t
    | ⟨3, _⟩ => fun _ => Classical.arbitrary _
  Φ _ := Pipeline.ΦA spec0 c
  q _ := fullShare
  owed _ := 0

/-- The activations' buffer when the body starts: the whole array. -/
theorem before_0 (c : Dev nD) (t : Fin cfg0.N) (d) : (dats m 0 c).before (0 : Fin 4) t d = iblk m c 0 t :=
  before0_0_of m (dats m 0 c) rfl (fun _ => rfl) t d
/-- The code bytes' buffer when the body starts: the block, filled out by what the buffer held. -/
theorem before_1 (c : Dev nD) (t : Fin cfg0.N) (d) :
    (dats m 0 c).before (1 : Fin 4) t d = win0_1.fill (grid0.coords t) d (iblk m c 1 t) := by
  unfold Dat.before; rw [if_pos (fetch0_1 t)]; rfl
/-- The scale bytes' buffer when the body starts: the block, filled out by what the buffer held. -/
theorem before_2 (c : Dev nD) (t : Fin cfg0.N) (d) :
    (dats m 0 c).before (2 : Fin 4) t d = win0_2.fill (grid0.coords t) d (iblk m c 2 t) := by
  unfold Dat.before; rw [if_pos (fetch0_2 t)]; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- THE BODY at a grid point: it runs to its return and leaves the operands' buffers as they were; the result's block is not named. -/
theorem body_obligation (c : Dev nD) : BodyObligationLoose (dats (F := F) m 0 c) (defs₀ (F := F)) Variants.none () Set.univ forgets0 := fun t => by
  rw [bigSep_W0, bigSep_W0, defs₀_row]
  simp only [show forgets0 0 = false from rfl, show forgets0 1 = false from rfl, show forgets0 2 = false from rfl,
    show forgets0 3 = true from rfl]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨%fs, HS⟩, Hg⟩, Ho, ⟨%d0, H0⟩, ⟨%d1, H1⟩, ⟨%d2, H2⟩, ⟨%d3, H3⟩⟩
  rw [before_0, before_1, before_2]
  iapply (kernelRun (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists d3; iexact H3
  isplitl [HS]; · iexists fs; rw [owns_whole]; iexact HS
  iintro ⟨H0, H1, H2, H3, ⟨%fs', HS⟩⟩
  isplitl [HS Hg]
  · isplitl [HS]
    · iexists fs'; rw [owns_whole]; exact BI.Entails.refl _
    iexact Hg
  isplitl [Ho]; · iexact Ho
  isplitl [H0]; · iexact H0
  isplitl [H1]
  · iexists d1
    change _ ⊢ owns (c : Thread nD τ) (win0_1.stage (cfg0.slots t 1)) fullShare (win0_1.fill (grid0.coords t) d1 (win0_1.cut (grid0.coords t) (codeBlk m c t)))
    rw [show win0_1.cut (grid0.coords t) (codeBlk m c t) = iblk m c 1 t from win0_1.cut_fill _ _ _]; try iexact H1
  isplitl [H2]
  · iexists d2
    change _ ⊢ owns (c : Thread nD τ) (win0_2.stage (cfg0.slots t 2)) fullShare (win0_2.fill (grid0.coords t) d2 (win0_2.cut (grid0.coords t) (scaleBlk m c t)))
    rw [show win0_2.cut (grid0.coords t) (scaleBlk m c t) = iblk m c 2 t from win0_2.cut_fill _ _ _]; try iexact H2
  iexact H3

/-! ## The launch -/

/-- The buffer the host operation after the region writes. -/
def T0 : Finset (Ref sig .tc) := {main_v2}
/-- The host operation after the region writes the result's buffer and no other. -/
theorem sfx_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_singleton] at hops; subst hops
  simp only [hostOps1, List.mem_cons, List.not_mem_nil, or_false] at hop; subst hop
  simp only [StableHlo.reshape_writes, Finset.mem_singleton] at hb
  rw [T0, Finset.mem_singleton]
  exact Proc.devRef_injective .tc hb

set_option backward.isDefEq.respectTransparency.types false in
/-- From any memory with zero counters every weakly fair execution of @main ends; every array at contents the
    proof data allow, every other buffer but the host's result at what the region found, every counter at zero. -/
theorem run_main : θ_run defs (onTc (τ := τ) (main (F := F))) (s₀ m ρ)
    (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ Variants.none forgets0 T0 m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain m Variants.none) (hA := fun _ _ => rfl) (hΦ := fun _ _ => rfl)

/-- THE FRAME: every weakly fair execution of @main ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((congrFun (((dats m 0 c).toRForget forgets0).ArrAt_in 1 rfl _) _).mp ((h.1 c).1 1)).trans (V_main_arg1 m c),
     ((congrFun (((dats m 0 c).toRForget forgets0).ArrAt_in 2 rfl _) _).mp ((h.1 c).1 2)).trans (V_main_arg2 m c)⟩, h.2⟩) (run_main m ρ)

end Cert.Kernel.Hand
end
-- ==== Proof.IdealBody.lean ====
/-
  The body of `KernelIdeal`, run once at any float values, with what it leaves in the result's buffer: the product of the
  activations' block with the decoded weight block, whose rows are 24 pieces of 64.
-/
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.Frame
public import Idealize.ShloMosaic.Lib.Pipeline.FrameSuffix
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The scratch buffer of the scales' words, whole. -/
abbrev scM : Memref sig .tc .vmem S48x2048 .i32 := Memref.whole cc0_scratch0

/-- The bf16 words of the e2m1 codes `v`, sixteen bits at the low end of thirty-two. -/
def e2m1 (v : IVec S32x2048 32) : IVec S32x2048 32 :=
  ori (select (cmpi .sgt (andi v (broadcast S32x2048 7#32)) (broadcast S32x2048 1#32))
      (shli (addi (andi v (broadcast S32x2048 7#32)) (broadcast S32x2048 252#32)) (broadcast S32x2048 6#32))
      (muli (andi v (broadcast S32x2048 7#32)) (broadcast S32x2048 16128#32)))
    (shli (andi v (broadcast S32x2048 8#32)) (broadcast S32x2048 12#32))

/-- A piece's code words: the low code's bf16 word in the low half, the high code's in the high half. -/
def codeWords (w : IVec S32x2048 8) : IVec S32x2048 32 :=
  ori (e2m1 (andi (extui 32 w natLt_8_32) (broadcast S32x2048 15#32)))
    (shli (e2m1 (shrsi (extui 32 w natLt_8_32) (broadcast S32x2048 4#32))) (broadcast S32x2048 16#32))

/-- One row of scale words, read as bf16 and repeated over the 32 weight rows of its block. -/
def scaleRow (s : IVec S1x2048 32) : FVec F S32x2048 .bf16 :=
  bitcastToFloat .bf16 (bitcast S32x2048 16 (broadcastTo S16x2048 (shapeCast S1x2048 s shapeCasts_S1x2048_S1x2048)
    broadcasts_S1x2048_S16x2048) bitcasts_S16x2048_w32_S32x2048_w16)

/-- A piece of 64 decoded weight rows: its codes' values times the two rows of scales. -/
def piece (w : IVec S32x2048 8) (s0 s1 : IVec S1x2048 32) : FVec F S64x2048 .bf16 :=
  mulf (bitcastToFloat .bf16 (bitcast S64x2048 16 (codeWords w) bitcasts_S32x2048_w32_S64x2048_w16))
    (concatenate S64x2048 0 [⟨S32x2048, scaleRow s0⟩, ⟨S32x2048, scaleRow s1⟩] concatenates_S32x2048_S32x2048_S64x2048_d0)

/-- The 32 rows of piece `g` lie inside the block of code bytes. -/
theorem inb_code (g : Fin 24) : ∀ a, (![32 * (g : ℕ), 0] : Fin 2 → ℕ) a + S32x2048.size a ≤ S768x2048.size a := by
  revert g; decide +kernel
/-- Row `p` lies inside the block of scale words. -/
theorem inb_row (p : Fin 48) : ∀ a, (![(p : ℕ), 0] : Fin 2 → ℕ) a + S1x2048.size a ≤ S48x2048.size a := by
  revert p; decide +kernel

/-- Piece `g`'s 32 rows of code bytes. -/
def codeRows (X2 : IVec S768x2048 8) (g : Fin 24) : IVec S32x2048 8 :=
  View.ld (Val := Elt F) (e' := .i8) X2 (Rect.unit (s := S768x2048) ![32 * (g : ℕ), 0] S32x2048.size (inb_code g))
/-- Row `p` of the scale words. -/
def wordRow (S : IVec S48x2048 32) (p : Fin 48) : IVec S1x2048 32 :=
  View.ld (Val := Elt F) (e' := .i32) S (Rect.unit (s := S48x2048) ![(p : ℕ), 0] S1x2048.size (inb_row p))

/-- Piece `g` of the block, from the code bytes and the scale words. -/
def pieceAt (X2 : IVec S768x2048 8) (S : IVec S48x2048 32) (g : Fin 24) : FVec F S64x2048 .bf16 :=
  piece (codeRows (F := F) X2 g) (wordRow (F := F) S ⟨2 * g, by omega⟩) (wordRow (F := F) S ⟨2 * g + 1, by omega⟩)

/-- Twenty-four pieces of 64 rows make up the 1536 rows of the weight block. -/
theorem concats24 {α : Type} (f : Fin 24 → (S64x2048.Idx → α)) :
    Shape.Concatenates ((List.ofFn fun g : Fin 24 => (⟨S64x2048, f g⟩ : (s : Shape) × (s.Idx → α))).map (·.1)) S1536x2048 0 := by
  rw [List.map_ofFn]; change Shape.Concatenates (List.ofFn fun _ : Fin 24 => S64x2048) _ _
  decide +kernel

/-- The decoded weight block. -/
def weights (X2 : IVec S768x2048 8) (S : IVec S48x2048 32) : FVec F S1536x2048 .bf16 :=
  concatenate S1536x2048 0 (List.ofFn fun g : Fin 24 => ⟨S64x2048, pieceAt X2 S g⟩) (concats24 _)

/-- What the body leaves in the result's buffer, from the three operands' blocks. -/
def bodyOut (X1 : FVec F S128x1536 .bf16) (X2 : IVec S768x2048 8) (X3 : IVec S48x2048 8) : FVec F S128x2048 .bf16 :=
  k0_pay146 (weights X2 (k0_pay1 (F := F) X3)) X1

/-- Concatenations of equal lists of operands are equal. -/
theorem concatenate_congr {α : Type} {t : Shape} {a : Fin t.rank} {xs ys : List ((s : Shape) × (s.Idx → α))} (h : xs = ys)
    (hx : Shape.Concatenates (xs.map (·.1)) t a) (hy : Shape.Concatenates (ys.map (·.1)) t a) :
    concatenate t a xs hx = concatenate t a ys hy := by subst h; rfl

/-- One store of a whole shape at offset zero, read back, is the block stored. -/
theorem read_store {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w

/-- Any part of what one store of a whole shape left is that part of the block stored. -/
theorem readCov_store {κ : Kind} {sp : Space} {S : Shape} {e : EltTy} (v : View sig κ sp S e)
    {off : Fin S.rank → ℕ} (h : off = fun _ => 0) (inb : ∀ a, off a + S.size a ≤ S.size a) (w : S.Idx → Elt F e) (r : Rect S) :
    v.readCov (Val := Elt F) [⟨Rect.unit off S.size inb, w⟩] r.toLoadRect = View.ld w r := by
  unfold View.readCov; rw [View.readAt_eq_ld, read_store v _ h inb w]

/-- The offset of a whole two-axis load or store is zero. -/
theorem off00 : (![0, 0] : Fin 2 → ℕ) = fun _ => 0 := by funext a; revert a; decide

/-- Row `p` of the scale words as the body loads it, out of the scratch buffer it stored them to. -/
def covRow (S : IVec S48x2048 32) (p : Fin 48) : IVec S1x2048 32 :=
  scM.view.readCov (Val := Elt F) [⟨Rect.unit (s := S48x2048) ![0, 0] S48x2048.size inb_S48x2048_S48x2048_0_0, S⟩]
    (Rect.unit (s := S48x2048) ![(p : ℕ), 0] S1x2048.size (inb_row p)).toLoadRect

/-- `pieceAt` with the scale rows loaded from the scratch buffer. -/
def pieceCov (X2 : IVec S768x2048 8) (S : IVec S48x2048 32) (g : Fin 24) : FVec F S64x2048 .bf16 :=
  piece (codeRows (F := F) X2 g) (covRow (F := F) S ⟨2 * g, by omega⟩) (covRow (F := F) S ⟨2 * g + 1, by omega⟩)

/-- A piece is the same whether its scale rows come from the words stored or from the scratch buffer they were stored to. -/
theorem pieceCov_eq (X2 : IVec S768x2048 8) (S : IVec S48x2048 32) (g : Fin 24) : pieceCov (F := F) X2 S g = pieceAt X2 S g := by
  unfold pieceCov pieceAt covRow wordRow
  rw [readCov_store (F := F) _ off00, readCov_store (F := F) _ off00]

set_option maxHeartbeats 4000000 in
/-- The body's triple: from the three operands' buffers at `X1`, `X2`, `X3` and the result's and the scratch's at some
    contents, the body runs to its return, the operands' buffers as they were and the result's at `bodyOut X1 X2 X3`. -/
theorem kernelRun (c : Dev nD) (i : grid0.Coords) (arg1 : Memref sig .tc .vmem S128x1536 .bf16) (harg1 : arg1.IsWhole)
    (arg2 : Memref sig .tc .vmem S768x2048 .i8) (harg2 : arg2.IsWhole) (arg3 : Memref sig .tc .vmem S48x2048 .i8) (harg3 : arg3.IsWhole)
    (arg4 : Memref sig .tc .vmem S128x2048 .bf16) (harg4 : arg4.IsWhole)
    (X1 : S128x1536.Idx → Elt F .bf16) (X2 : S768x2048.Idx → Elt F .i8) (X3 : S48x2048.Idx → Elt F .i8) (K : PUnit → sProp 𝕄) :
    iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) scM fullShare d)
        ∗ (iprop(owns (c : Thread nD τ) arg1 fullShare X1 ∗ owns (c : Thread nD τ) arg2 fullShare X2 ∗ owns (c : Thread nD τ) arg3 fullShare X3
        ∗ owns (c : Thread nD τ) arg4 fullShare (bodyOut X1 X2 X3) ∗ (∃ d, owns (c : Thread nD τ) scM fullShare d)) -∗ K ⟨⟩))
      ⊢ wp frame (wpE (defs₀ (F := F)) Variants.none c none) Set.univ
          (cc0_mxfp4_linear i arg1 harg1 arg2 harg2 arg3 harg3 arg4 harg4 scM (Memref.isWhole_whole _)) K := by
  simp only [cc0_mxfp4_linear_eq_skeleton]; unfold cc0_mxfp4_linear_skel
  unfold owns
  iintro ⟨⟨%f1, %h1, H1⟩, ⟨%f2, %h2, H2⟩, ⟨%f3, %h3, H3⟩, ⟨%d4, %f4, -, H4⟩, ⟨%ds, %fs, -, HS⟩, Hk⟩
  sl_exec_parts
  sl_step
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists _; isplitr; swap; · iexact H4
    ipureintro
    subst h1 h2 h3
    refine (read_store _ _ off00 _ _).trans ?_
    unfold kernelRun.sl.v1258
    rw [View.readAt_eq_ld, View.ld_unit_zero off00, bodyOut, weights]
    refine congrArg₂ _ (concatenate_congr ?_ _ _) rfl
    rw [← View.ld_unit_zero (Val := Elt F) (e := .i8) off00 inb_S48x2048_S48x2048_0_0 (View.read (Elt F) arg3.view f3)]
    refine Eq.trans (b := List.ofFn fun g : Fin 24 => (⟨S64x2048, pieceCov (View.read (Elt F) arg2.view f2) (k0_pay1 (F := F)
      (View.ld (View.read (Elt F) arg3.view f3) (Rect.unit (s := S48x2048) ![0, 0] S48x2048.size inb_S48x2048_S48x2048_0_0))) g⟩ : (s : Shape) × (s.Idx → F .bf16))) ?_ ?_
    · repeat' (refine congrArg₂ List.cons (congrArg (Sigma.mk S64x2048) ?_) ?_)
      all_goals rfl
    · simp only [pieceCov_eq]
  iexists _, _; isplitr; swap; · iexact HS
  ipureintro; rfl

end Cert.KernelIdeal.Hand
end
-- ==== Proof.IdealWeights.lean ====
/-
  What `bodyOut` holds at the exact values, element by element: row `r`, column `c` is the sum over the 1536 weight rows of
  the activation times the weight, and the weight at row `k` is read off ONE code byte and ONE scale byte of column `c`.
-/
module

public import proofs.«01_k».proof.Proof.IdealBody
public import Idealize.ShloMosaic.Lib.ValueIdx
public import Idealize.ShloMosaic.Lib.BitcastPair
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.ValueIdx
open scoped BigOperators

/-- The bf16 word of one e2m1 code, at the low end of thirty-two bits. -/
def e2m1Word (v : BitVec 32) : BitVec 32 :=
  IntOp.ori (Scalar.select (IntOp.cmpi .sgt (IntOp.andi v 7#32) 1#32) (IntOp.shli .vector (IntOp.addi (IntOp.andi v 7#32) 252#32) 6#32)
    (IntOp.muli (IntOp.andi v 7#32) 16128#32)) (IntOp.shli .vector (IntOp.andi v 8#32) 12#32)

/-- The two bf16 words of one code byte. -/
def codeWord (b : BitVec 8) : BitVec 32 :=
  IntOp.ori (e2m1Word (IntOp.andi (b.setWidth 32) 15#32)) (IntOp.shli .vector (e2m1Word (IntOp.shrsi .vector (b.setWidth 32) 4#32)) 16#32)

/-- The bf16 word of one scale byte, in both halves. -/
def scaleWord (b : BitVec 8) : BitVec 32 := IntOp.ori (IntOp.shli .vector (b.setWidth 32) 7#32) (IntOp.shli .vector (b.setWidth 32) 23#32)

/-- The decoded words of a piece, byte by byte. -/
theorem codeWords_apply (w : IVec S32x2048 8) (j : S32x2048.Idx) : codeWords w j = codeWord (w j) := rfl

/-- The scale words the body stores to its scratch buffer, byte by byte. -/
theorem k0_pay1_apply (X3 : IVec S48x2048 8) (j : S48x2048.Idx) : k0_pay1 (F := Ideal) X3 j = scaleWord (X3 j) := by
  unfold k0_pay1; exact congrFun (shapeCast_self _ _) j

/-- Thirty-two-bit words read at sixteen bits, at row `a`: half `a % 2` of word row `a / 2`. -/
theorem bitcast_at {M M' N : ℕ} (x : (⟨2, ![M, N]⟩ : Shape).Idx → BitVec 32)
    (h : (⟨2, ![M, N]⟩ : Shape).Bitcasts 32 ⟨2, ![M', N]⟩ 16) (a : Fin M') (b : Fin N) (p : Fin M) (hp : p.val = a.val / 2) :
    bitcast ⟨2, ![M', N]⟩ 16 x h (ix2 a b) = (x (ix2 p b)).extractLsb' (16 * (a.val % 2)) 16 := by
  rw [bitcast_32_16]
  refine congrArg₂ (fun n y => BitVec.extractLsb' n 16 (x y)) rfl ?_
  funext d; apply Fin.ext
  match d with
  | ⟨0, _⟩ => exact (h.srcIdx_row _ _ _ _ rfl).trans hp.symm
  | ⟨1, _⟩ => exact h.srcIdx_other _ _ _ _ (fun e => absurd (show 3 = 2 from e) (by decide))

/-- One row of scale words at its row `a`: half `a % 2` of the column's word. -/
theorem scaleRow_apply (w : IVec S1x2048 32) (a : Fin 32) (b : Fin 2048) :
    scaleRow (F := Ideal) w (ix2 a b) = Ideal.ofBits .bf16 ((w (ix2 0 b)).extractLsb' (16 * (a.val % 2)) 16) := by
  unfold scaleRow
  rw [shapeCast_self]
  refine congrArg (Ideal.ofBits .bf16) ((bitcast_at _ _ a b ⟨a.val / 2, by omega⟩ rfl).trans ?_)
  congr 1
  unfold broadcastTo
  congr 1
  funext d
  match d with
  | ⟨0, _⟩ => rfl
  | ⟨1, _⟩ => rfl

/-- A piece's codes at its row `a`: half `a % 2` of the word of code row `a / 2`. -/
theorem codes_apply (w : IVec S32x2048 8) (a : Fin 64) (b : Fin 2048) :
    bitcastToFloat (F := Ideal) .bf16 (bitcast S64x2048 16 (codeWords w) bitcasts_S32x2048_w32_S64x2048_w16) (ix2 a b)
      = Ideal.ofBits .bf16 ((codeWord (w (ix2 ⟨a.val / 2, by omega⟩ b))).extractLsb' (16 * (a.val % 2)) 16) :=
  congrArg (Ideal.ofBits .bf16) (bitcast_at _ _ a b ⟨a.val / 2, by omega⟩ rfl)

/-- A piece at its row `a`. -/
theorem piece_apply (w : IVec S32x2048 8) (s0 s1 : IVec S1x2048 32) (a : Fin 64) (b : Fin 2048) :
    piece (F := Ideal) w s0 s1 (ix2 a b)
      = Ideal.ofBits .bf16 ((codeWord (w (ix2 ⟨a.val / 2, by omega⟩ b))).extractLsb' (16 * (a.val % 2)) 16)
        * Ideal.ofBits .bf16 (((if a.val < 32 then s0 else s1) (ix2 0 b)).extractLsb' (16 * (a.val % 2)) 16) := by
  unfold piece
  rw [mulf_apply, codes_apply]
  congr 1
  by_cases h : a.val < 32
  · rw [if_pos h]
    refine Eq.trans (concatenate_pair_apply_left (t := S64x2048) 0 (scaleRow (F := Ideal) s0) (scaleRow (F := Ideal) s1)
      concatenates_S32x2048_S32x2048_S64x2048_d0 (ix2 a b) rfl (ix2 ⟨a.val, h⟩ b) fun d => ?_) (scaleRow_apply s0 ⟨a.val, h⟩ b)
    match d with
    | ⟨0, _⟩ => rfl
    | ⟨1, _⟩ => rfl
  · rw [if_neg h]
    have ha : (a.val - 32) % 2 = a.val % 2 := by omega
    have ha' : a.val - 32 < 32 := by omega
    refine Eq.trans (concatenate_pair_apply_right (t := S64x2048) 0 (scaleRow (F := Ideal) s0) (scaleRow (F := Ideal) s1)
      concatenates_S32x2048_S32x2048_S64x2048_d0 (ix2 a b) rfl rfl (ix2 ⟨a.val - 32, ha'⟩ b) (fun d hd => ?_) ?_)
      ((scaleRow_apply s1 ⟨a.val - 32, ha'⟩ b).trans (by rw [ha]))
    · match d with
      | ⟨0, _⟩ => exact absurd rfl hd
      | ⟨1, _⟩ => rfl
    · change a.val - 32 + 32 = a.val; omega

/-- The value of the weight whose code is half `h` of the code byte `b` and whose scale byte is `s`. -/
def wt (b : BitVec 8) (h : ℕ) (s : BitVec 8) : EReal :=
  Ideal.ofBits .bf16 ((codeWord b).extractLsb' (16 * h) 16) * Ideal.ofBits .bf16 ((scaleWord s).extractLsb' (16 * h) 16)

/-- The decoded weight block at row `k`: code byte row `k / 2`, half `k % 2`, and scale byte row `k / 32`. -/
theorem weights_apply (X2 : IVec S768x2048 8) (X3 : IVec S48x2048 8) (k : Fin 1536) (b : Fin 2048) :
    weights (F := Ideal) X2 (k0_pay1 (F := Ideal) X3) (ix2 k b)
      = wt (X2 (ix2 ⟨k.val / 2, by omega⟩ b)) (k.val % 2) (X3 (ix2 ⟨k.val / 32, by omega⟩ b)) := by
  unfold weights
  have hm : k.val % 64 % 2 = k.val % 2 := by omega
  refine Eq.trans (concatenate_ofFn_apply (t := S1536x2048) (s₁ := S64x2048) 0 (fun g : Fin 24 => pieceAt (F := Ideal) X2 (k0_pay1 (F := Ideal) X3) g)
    (concats24 _) rfl 64 rfl (ix2 k b) ⟨k.val / 64, by omega⟩ rfl (ix2 ⟨k.val % 64, by omega⟩ b) rfl fun d hd => ?_) ?_
  · match d with
    | ⟨0, _⟩ => exact absurd rfl hd
    | ⟨1, _⟩ => rfl
  unfold pieceAt
  rw [piece_apply, wt]
  change Ideal.ofBits .bf16 (BitVec.extractLsb' (16 * (k.val % 64 % 2)) 16 _)
    * Ideal.ofBits .bf16 (BitVec.extractLsb' (16 * (k.val % 64 % 2)) 16 ((if k.val % 64 < 32 then _ else _ : IVec S1x2048 32) _)) = _
  rw [hm]
  have hc : codeRows (F := Ideal) X2 ⟨k.val / 64, by omega⟩ (ix2 ⟨k.val % 64 / 2, by omega⟩ b) = X2 (ix2 ⟨k.val / 2, by omega⟩ b) := by
    refine congrArg X2 (funext fun d => Fin.ext ?_)
    match d with
    | ⟨0, _⟩ => change 32 * (k.val / 64) + 1 * (k.val % 64 / 2) = k.val / 2; omega
    | ⟨1, _⟩ => change 0 + 1 * b.val = b.val; omega
  have hs (S : IVec S48x2048 32) (p : Fin 48) : wordRow (F := Ideal) S p (ix2 0 b) = S (ix2 p b) := by
    refine congrArg S (funext fun d => Fin.ext ?_)
    match d with
    | ⟨0, _⟩ => change p.val + 1 * 0 = p.val; omega
    | ⟨1, _⟩ => change 0 + 1 * b.val = b.val; omega
  rw [← k0_pay1_apply]
  congr 3
  · exact congrArg codeWord hc
  · split
    · rw [hs]; congr 2; apply Fin.ext; change 2 * (k.val / 64) = k.val / 32; omega
    · rw [hs]; congr 2; apply Fin.ext; change 2 * (k.val / 64) + 1 = k.val / 32; omega

/-- WHAT THE BODY LEAVES, element by element. -/
theorem bodyOut_apply (X1 : FVec Ideal S128x1536 .bf16) (X2 : IVec S768x2048 8) (X3 : IVec S48x2048 8) (r : Fin 128) (b : Fin 2048) :
    bodyOut (F := Ideal) X1 X2 X3 (ix2 r b)
      = ∑ k : Fin 1536, X1 (ix2 r k) * wt (X2 (ix2 ⟨k.val / 2, by omega⟩ b)) (k.val % 2) (X3 (ix2 ⟨k.val / 32, by omega⟩ b)) := by
  unfold bodyOut k0_pay146
  rw [shapeCast_self]
  change FloatOps.matmul (DotDims.plain 128 1536 2048) none X1 _ _ (ix2 r b) = _
  rw [Ideal.matmul_plain_apply]
  rw [show (constant (F := Ideal) S128x2048 .f32 0x00000000#32) (ix2 r b) = 0 from Ideal.ofBits_zero_f32, zero_add]
  exact Finset.sum_congr rfl fun k _ => congrArg (X1 (ix2 r k) * ·) (weights_apply X2 X3 k b)

end Cert.KernelIdeal.Hand
end
-- ==== Proof.IdealValue.lean ====
/-
  The run of `KernelIdeal`'s @main with its result's value: at every index the sum, over the 1536 weight rows, of the
  activation times the weight's value. The columns past the arrays' end that the last block holds reach no element of it.
-/
module

public import proofs.«01_k».proof.Proof.IdealWeights
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose Window)
open scoped BigOperators

local notation "𝕄" => MT nD τ sig Unit (Elt Ideal) ℕ (UR sig nD τ) ℕ

variable (m : (ℓ : Loc nD τ sig) → Buf (Elt Ideal) ℓ) (ρ : Dev nD → PrngReg)

/-- The activations as the region finds them: the argument, its unit axis dropped. -/
def xArr (c : Dev nD) : FVec Ideal S128x1536 .bf16 := V m c main_v0
/-- The code bytes, two four-bit codes each. -/
def codeArr (c : Dev nD) : IVec S768x30592 8 := m ((c : Thread nD τ).loc main_arg1)
/-- The scale bytes, one for each block of 32 weight rows. -/
def scaleArr (c : Dev nD) : IVec S48x30592 8 := m ((c : Thread nD τ).loc main_arg2)

/-- THE PRODUCT of the activations with the decoded weights, element by element. -/
def G (x : FVec Ideal S128x1536 .bf16) (codes : IVec S768x30592 8) (scales : IVec S48x30592 8) : FVec Ideal S128x30592 .bf16 :=
  fun i => ∑ k : Fin 1536, x (ix2 (i 0) k) * wt (codes (ix2 ⟨k.val / 2, by omega⟩ (i 1))) (k.val % 2) (scales (ix2 ⟨k.val / 32, by omega⟩ (i 1)))

/-! ## Where the blocks lie -/

/-- Window by window, the block's index at a grid point: the activations' block is the whole array, the others' are a
    band of columns. -/
theorem index_at : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) := by
  decide +kernel

/-- The part of a block inside its array: all of its rows, and the same columns in the three banded windows. -/
theorem xsize_at : ∀ t : Fin grid0.N, (win0_1.xsize (grid0.coords t) 0 = 768 ∧ win0_1.xsize (grid0.coords t) 1 = win0_3.xsize (grid0.coords t) 1)
    ∧ (win0_2.xsize (grid0.coords t) 0 = 48 ∧ win0_2.xsize (grid0.coords t) 1 = win0_3.xsize (grid0.coords t) 1)
    ∧ (win0_3.xsize (grid0.coords t) 0 = 128 ∧ win0_3.xsize (grid0.coords t) 1 = min 2048 (30592 - t.val * 2048)) := by
  decide +kernel

/-- The activations' block is the array. -/
theorem xBlk_apply (c : Dev nD) (t : Fin grid0.N) (r : Fin 128) (k : Fin 1536) :
    (iblk m c 0 t : S128x1536.Idx → EReal) (ix2 r k) = xArr m c (ix2 r k) := by
  refine congrArg (xArr m c) (funext fun a => Fin.ext ?_)
  refine (win0_0.rect_emb_val t (ix2 r k) a).trans ?_
  match a with
  | ⟨0, _⟩ => change win0_0.index t 0 * _ + r.val = r.val; rw [(index_at t).1.1]; omega
  | ⟨1, _⟩ => change win0_0.index t 1 * _ + k.val = k.val; rw [(index_at t).1.2]; omega

/-- The code block in a column inside the array is that column of the array, whatever fills the block out. -/
theorem codeBlk_apply (c : Dev nD) (t : Fin grid0.N) (d : S768x2048.Idx → BitVec 8) (p : Fin 768) (b : Fin 2048)
    (hb : b.val < win0_3.xsize (grid0.coords t) 1) (B : Fin 30592) (hB : B.val = t.val * 2048 + b.val) :
    (win0_1.fill (grid0.coords t) d (iblk m c 1 t) : S768x2048.Idx → BitVec 8) (ix2 p b) = codeArr m c (ix2 p B) := by
  have hm : win0_1.moved (grid0.coords t) (ix2 p b) = true := (win0_1.moved_iff _ _).mpr fun a => by
    match a with
    | ⟨0, _⟩ => change p.val < win0_1.xsize (grid0.coords t) 0; rw [(xsize_at t).1.1]; exact p.isLt
    | ⟨1, _⟩ => change b.val < win0_1.xsize (grid0.coords t) 1; rw [(xsize_at t).1.2]; exact hb
  unfold Window.fill
  rw [dif_pos hm, show codeArr m c = V m c main_arg1 from (V_main_arg1 m c).symm]
  refine congrArg (V m c main_arg1) (funext fun a => Fin.ext ?_)
  refine (win0_1.rect_emb_val t _ a).trans ?_
  match a with
  | ⟨0, _⟩ => change win0_1.index t 0 * _ + p.val = p.val; rw [(index_at t).2.1.1]; omega
  | ⟨1, _⟩ => change win0_1.index t 1 * 2048 + b.val = B.val; rw [(index_at t).2.1.2, hB]

/-- The scale block in a column inside the array is that column of the array, whatever fills the block out. -/
theorem scaleBlk_apply (c : Dev nD) (t : Fin grid0.N) (d : S48x2048.Idx → BitVec 8) (p : Fin 48) (b : Fin 2048)
    (hb : b.val < win0_3.xsize (grid0.coords t) 1) (B : Fin 30592) (hB : B.val = t.val * 2048 + b.val) :
    (win0_2.fill (grid0.coords t) d (iblk m c 2 t) : S48x2048.Idx → BitVec 8) (ix2 p b) = scaleArr m c (ix2 p B) := by
  have hm : win0_2.moved (grid0.coords t) (ix2 p b) = true := (win0_2.moved_iff _ _).mpr fun a => by
    match a with
    | ⟨0, _⟩ => change p.val < win0_2.xsize (grid0.coords t) 0; rw [(xsize_at t).2.1.1]; exact p.isLt
    | ⟨1, _⟩ => change b.val < win0_2.xsize (grid0.coords t) 1; rw [(xsize_at t).2.1.2]; exact hb
  unfold Window.fill
  rw [dif_pos hm, show scaleArr m c = V m c main_arg2 from (V_main_arg2 m c).symm]
  refine congrArg (V m c main_arg2) (funext fun a => Fin.ext ?_)
  refine (win0_2.rect_emb_val t _ a).trans ?_
  match a with
  | ⟨0, _⟩ => change win0_2.index t 0 * _ + p.val = p.val; rw [(index_at t).2.2.1.1]; omega
  | ⟨1, _⟩ => change win0_2.index t 1 * 2048 + b.val = B.val; rw [(index_at t).2.2.1.2, hB]

/-- What the body leaves inside the array is the product's block there, whatever fills the operands' blocks out. -/
theorem bodyOut_cut (c : Dev nD) (t : Fin grid0.N) (d1 : S768x2048.Idx → BitVec 8) (d2 : S48x2048.Idx → BitVec 8) :
    win0_3.cut (grid0.coords t) (bodyOut (F := Ideal) (iblk m c 0 t) (win0_1.fill (grid0.coords t) d1 (iblk m c 1 t))
        (win0_2.fill (grid0.coords t) d2 (iblk m c 2 t)))
      = fun y => G (xArr m c) (codeArr m c) (scaleArr m c) ((win0_3.rect t).emb y) := by
  funext y
  have hx := (xsize_at t).2.2
  have h0 : (y 0).val < 128 := by have := (y 0).isLt; change (y 0).val < win0_3.xsize (grid0.coords t) 0 at this; rw [hx.1] at this; exact this
  have h1 : (y 1).val < win0_3.xsize (grid0.coords t) 1 := (y 1).isLt
  have h2 : (y 1).val < 2048 := by rw [hx.2] at h1; omega
  have e0 : ((win0_3.rect t).emb y 0).val = (y 0).val := by
    refine (win0_3.rect_emb_val t y 0).trans ?_; rw [(index_at t).2.2.2.1]; omega
  have e1 : ((win0_3.rect t).emb y 1).val = t.val * 2048 + (y 1).val := by
    refine (win0_3.rect_emb_val t y 1).trans ?_; rw [(index_at t).2.2.2.2]; rfl
  have hj : win0_3.xinj (grid0.coords t) y = (ix2 ⟨(y 0).val, h0⟩ ⟨(y 1).val, h2⟩ : S128x2048.Idx) := by
    funext a; match a with
    | ⟨0, _⟩ => rfl
    | ⟨1, _⟩ => rfl
  change bodyOut _ _ _ (win0_3.xinj (grid0.coords t) y) = _
  rw [hj, bodyOut_apply]
  unfold G
  refine Finset.sum_congr rfl fun k _ => ?_
  rw [xBlk_apply, codeBlk_apply m c t d1 _ ⟨(y 1).val, h2⟩ h1 ((win0_3.rect t).emb y 1) e1,
    scaleBlk_apply m c t d2 _ ⟨(y 1).val, h2⟩ h1 ((win0_3.rect t).emb y 1) e1,
    show (⟨(y 0).val, h0⟩ : Fin 128) = (win0_3.rect t).emb y 0 from Fin.ext e0.symm]

/-! ## The proof data and the body obligation -/

/-- The operand's block of code bytes at a grid point, filled out past the array's end (the last block overhangs). -/
def codeBlk (c : Dev nD) (t : Fin cfg0.N) : S768x2048.Idx → BitVec 8 := win0_1.fill (grid0.coords t) (fun _ => 0#8) (iblk m c 1 t)
/-- The operand's block of scale bytes at a grid point, filled out past the array's end. -/
def scaleBlk (c : Dev nD) (t : Fin cfg0.N) : S48x2048.Idx → BitVec 8 := win0_2.fill (grid0.coords t) (fun _ => 0#8) (iblk m c 2 t)
/-- The result's block at a grid point. -/
def outBlk (c : Dev nD) (t : Fin cfg0.N) : FVec Ideal S128x2048 .bf16 := bodyOut (F := Ideal) (iblk m c 0 t) (codeBlk m c t) (scaleBlk m c t)

/-- The proof data: the arrays as the region finds them, the operands' blocks left in place, the result's block computed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => codeBlk m c t
    | ⟨2, _⟩ => scaleBlk m c t
    | ⟨3, _⟩ => outBlk m c t
  Φ _ := Pipeline.ΦA spec0 c
  q _ := fullShare
  owed _ := 0

/-- The activations' buffer when the body starts: the whole array. -/
theorem before_0 (c : Dev nD) (t : Fin cfg0.N) (d) : (dats m 0 c).before (0 : Fin 4) t d = iblk m c 0 t :=
  before0_0_of m (dats m 0 c) rfl (fun _ => rfl) t d
/-- The code bytes' buffer when the body starts: the block, filled out by what the buffer held. -/
theorem before_1 (c : Dev nD) (t : Fin cfg0.N) (d) :
    (dats m 0 c).before (1 : Fin 4) t d = win0_1.fill (grid0.coords t) d (iblk m c 1 t) := by
  unfold Dat.before; rw [if_pos (fetch0_1 t)]; rfl
/-- The scale bytes' buffer when the body starts: the block, filled out by what the buffer held. -/
theorem before_2 (c : Dev nD) (t : Fin cfg0.N) (d) :
    (dats m 0 c).before (2 : Fin 4) t d = win0_2.fill (grid0.coords t) d (iblk m c 2 t) := by
  unfold Dat.before; rw [if_pos (fetch0_2 t)]; rfl

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The computed block, written inside the array over what the body left past its end, is what the body left. -/
theorem out_fill (c : Dev nD) (t : Fin cfg0.N) (d1 : S768x2048.Idx → BitVec 8) (d2 : S48x2048.Idx → BitVec 8) :
    win0_3.fill (α := Elt Ideal .bf16) (grid0.coords t)
      (bodyOut (F := Ideal) (iblk m c 0 t) (win0_1.fill (grid0.coords t) d1 (iblk m c 1 t)) (win0_2.fill (grid0.coords t) d2 (iblk m c 2 t)))
      (win0_3.cut (α := Elt Ideal .bf16) (grid0.coords t) (outBlk m c t))
    = bodyOut (F := Ideal) (iblk m c 0 t) (win0_1.fill (grid0.coords t) d1 (iblk m c 1 t)) (win0_2.fill (grid0.coords t) d2 (iblk m c 2 t)) :=
  win0_3.fill_congr_cut (grid0.coords t) ((bodyOut_cut m c t d1 d2).trans (bodyOut_cut m c t _ _).symm)

set_option maxHeartbeats 2000000 in
/-- THE BODY at a grid point: from the staged blocks to the computed one, inside the arrays. -/
theorem body_obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨%fs, HS⟩, Hg⟩, Ho, ⟨%d0, H0⟩, ⟨%d1, H1⟩, ⟨%d2, H2⟩, ⟨%d3, H3⟩⟩
  rw [before_0, before_1, before_2]
  iapply (kernelRun (F := Ideal) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  isplitl [HS]; · iexists fs; rw [owns_whole]; iexact HS
  iintro ⟨H0, H1, H2, H3, ⟨%fs', HS⟩⟩
  isplitl [HS Hg]
  · isplitl [HS]
    · iexists fs'; rw [owns_whole]; exact BI.Entails.refl _
    iexact Hg
  isplitl [Ho]; · iexact Ho
  isplitl [H0]; · iexact H0
  isplitl [H1]
  · iexists d1
    change _ ⊢ owns (c : Thread nD τ) (win0_1.stage (cfg0.slots t 1)) fullShare (win0_1.fill (grid0.coords t) d1 (win0_1.cut (grid0.coords t) (codeBlk m c t)))
    rw [show win0_1.cut (grid0.coords t) (codeBlk m c t) = iblk m c 1 t from win0_1.cut_fill _ _ _]; try iexact H1
  isplitl [H2]
  · iexists d2
    change _ ⊢ owns (c : Thread nD τ) (win0_2.stage (cfg0.slots t 2)) fullShare (win0_2.fill (grid0.coords t) d2 (win0_2.cut (grid0.coords t) (scaleBlk m c t)))
    rw [show win0_2.cut (grid0.coords t) (scaleBlk m c t) = iblk m c 2 t from win0_2.cut_fill _ _ _]; try iexact H2
  iexists (bodyOut (F := Ideal) (iblk m c 0 t) (win0_1.fill (grid0.coords t) d1 (iblk m c 1 t)) (win0_2.fill (grid0.coords t) d2 (iblk m c 2 t)))
  change _ ⊢ owns (c : Thread nD τ) (win0_3.stage (cfg0.slots t 3)) fullShare (win0_3.fill (α := Elt Ideal .bf16) (grid0.coords t)
    (bodyOut (F := Ideal) (iblk m c 0 t) (win0_1.fill (grid0.coords t) d1 (iblk m c 1 t)) (win0_2.fill (grid0.coords t) d2 (iblk m c 2 t)))
    (win0_3.cut (α := Elt Ideal .bf16) (grid0.coords t) (outBlk m c t)))
  rw [out_fill]; try iexact H3

/-! ## The launch -/

set_option backward.isDefEq.respectTransparency.types false in
/-- From any memory with zero counters every weakly fair execution of @main ends; every array at the contents the proof
    data compute, every other buffer at what the host operations leave, every counter at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)

/-- The region's result array is the product. -/
theorem arr_eq (c : Dev nD) : (dats m 0 c).arrAt 3 cfg0.N = G (xArr m c) (codeArr m c) (scaleArr m c) := by
  refine (dats m 0 c).arrAt_eq_of_covers 3 _ (by decide +kernel) fun t _ y => ?_
  exact congrFun (bodyOut_cut m c t _ _) y

/-- The activations as the region finds them: the argument reshaped. -/
theorem xArr_eq (c : Dev nD) : xArr m c = shapeCast S128x1536 (m ((c : Thread nD τ).loc main_arg0)) shapeCasts_S128x1x1536_S128x1536 := by
  unfold xArr V V0
  simp only [List.flatten_cons, List.flatten_nil, List.append_nil, hostOps0]
  after_results_simp
  rfl

/-- The host's result after the region: the region's result array reshaped. -/
theorem out_eq (c : Dev nD) : Pipeline.afterTail₀ cfgs (dats m) 0 (V0 m) [hostOps1] c main_v2
    = shapeCast S128x1x30592 (G (xArr m c) (codeArr m c) (scaleArr m c)) shapeCasts_S128x30592_S128x1x30592 := by
  unfold Pipeline.afterTail₀
  simp only [List.flatten_cons, List.flatten_nil, List.append_nil, hostOps1]
  after_results_simp
  have h := Pipeline.withArrays_arr (cfgs 0).spec (by decide) c (V0 m c) (fun w => (dats m 0 c).arrAt w (cfgs 0).N) 3
  rw [← arr_eq m c]
  rw [← h]
  rfl

/-- The value @main returns, of its arguments. -/
def result (c : Dev nD) : FVec Ideal S128x1x30592 .bf16 :=
  shapeCast S128x1x30592 (G (shapeCast S128x1536 (m ((c : Thread nD τ).loc main_arg0)) shapeCasts_S128x1x1536_S128x1536)
    (m ((c : Thread nD τ).loc main_arg1)) (m ((c : Thread nD τ).loc main_arg2))) shapeCasts_S128x30592_S128x1x30592

/-- THE RUN: every weakly fair execution of @main ends with the result's buffer at `result`, the arguments as launched and
    every counter at zero. -/
theorem run : θ_run defs (onTc (τ := τ) (main (F := Ideal))) ⟨m, fun _ => 0, ρ⟩ (fun r => (∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).2 main_v2 (Pipeline.mem_restRefs_of main_v2 (by decide) (by decide))).trans
        ((out_eq m c).trans (by rw [xArr_eq]; rfl)),
     ((h.1 c).2 main_arg0 (Pipeline.mem_restRefs_of main_arg0 (by decide) (by decide))).trans (W_main_arg0 m (dats m) c),
     ((h.1 c).1 1).trans (((dats m 0 c).arrAt_in 1 rfl _).trans (V_main_arg1 m c)),
     ((h.1 c).1 2).trans (((dats m 0 c).arrAt_in 2 rfl _).trans (V_main_arg2 m c))⟩, h.2⟩) (run_main m ρ)

end Cert.KernelIdeal.Hand
end
-- ==== Proof.Decode.lean ====
/-
  The scalars of the two decodings at the exact values: a four-bit code's value and a scale byte's value, as the reference's
  arithmetic gives them and as the kernel's words denote them, and their agreement.
-/
module

public import proofs.«01_k».proof.Proof.IdealWeights
public import Idealize.ShloMosaic.Lib.IdealHost

@[expose] public section

set_option maxRecDepth 16384

noncomputable section

namespace Cert.Decode

open Idealize.ShloMosaic
open Cert.KernelIdeal.Hand (e2m1Word codeWord scaleWord wt)

/-- The magnitude of an e2m1 code by its mantissa and exponent fields, as the reference computes it. -/
def magnitude (man ex : Ideal .f32) : Ideal .f32 :=
  Scalar.select (FloatOps.cmpf .oeq ex (FloatOps.ofBits .f32 0x00000000#32)) (FloatOps.hostDivf man (FloatOps.ofBits .f32 0x40000000#32))
    (FloatOps.mulf (FloatOps.addf (FloatOps.ofBits .f32 0x3F800000#32) (FloatOps.hostDivf man (FloatOps.ofBits .f32 0x40000000#32)))
      (FloatOps.hostPowf (FloatOps.ofBits .f32 0x40000000#32) (FloatOps.subf ex (FloatOps.ofBits .f32 0x3F800000#32))))

/-- The value of an e2m1 code, as the reference computes it. -/
def nibble (v : BitVec 32) : Ideal .f32 :=
  Scalar.select (IntOp.cmpi .sge v 8#32)
    (FloatOps.hostNegf (magnitude (FloatOps.sitofp .f32 (IntOp.andi v 1#32)) (FloatOps.sitofp .f32 (IntOp.andi (IntOp.shrsi .host v 1#32) 3#32))))
    (magnitude (FloatOps.sitofp .f32 (IntOp.andi v 1#32)) (FloatOps.sitofp .f32 (IntOp.andi (IntOp.shrsi .host v 1#32) 3#32)))

/-- The value of a scale byte, as the reference computes it. -/
def scale (s : BitVec 8) : Ideal .f32 :=
  FloatOps.hostPowf (FloatOps.ofBits .f32 0x40000000#32) (FloatOps.sitofp .f32 (IntOp.subi (s.setWidth 32) 127#32))

/-- The two codes of a byte, low first. -/
def code (b : BitVec 8) (h : ℕ) : BitVec 32 := if h = 0 then IntOp.andi (b.setWidth 32) 15#32 else IntOp.shrsi .host (b.setWidth 32) 4#32

/-- The real number 2, as its float32 word. -/
theorem two_f32 : (FloatOps.ofBits .f32 0x40000000#32 : Ideal .f32) = ((2 : ℝ) : EReal) := by
  change Ideal.ofBits .f32 _ = _
  simp [Ideal.ofBits, Ideal.ieee, -EReal.coe_mul]; norm_num

/-- The magnitude at real fields. -/
theorem magnitude_real (man ex : ℝ) :
    magnitude ((man : EReal) : Ideal .f32) ((ex : EReal) : Ideal .f32) = (((if ex = 0 then man / 2 else (1 + man / 2) * Real.rpow 2 (ex - 1) : ℝ)) : EReal) := by
  unfold magnitude
  rw [two_f32, show (FloatOps.ofBits .f32 0x3F800000#32 : Ideal .f32) = ((1 : ℝ) : EReal) from Ideal.ofBits_one_f32,
    show (FloatOps.ofBits .f32 0x00000000#32 : Ideal .f32) = ((0 : ℝ) : EReal) from Ideal.ofBits_zero_f32]
  have hd : (FloatOps.hostDivf ((man : EReal) : Ideal .f32) (((2 : ℝ) : EReal) : Ideal .f32) : Ideal .f32) = ((man / 2 : ℝ) : EReal) := by
    change Ideal.div _ _ = _
    unfold Ideal.div
    rw [if_neg (by norm_num), ← EReal.coe_inv, ← EReal.coe_mul, div_eq_mul_inv]
  rw [hd]
  change Scalar.select (Ideal.cmp .oeq (ex : EReal) ((0 : ℝ) : EReal)) ((man / 2 : ℝ) : EReal)
    ((((1 : ℝ) : EReal) + ((man / 2 : ℝ) : EReal)) * Ideal.pow ((2 : ℝ) : EReal) ((ex : EReal) - ((1 : ℝ) : EReal))) = _
  rw [← EReal.coe_add, ← EReal.coe_sub, Ideal.pow_coe_coe, ← EReal.coe_mul]
  by_cases h : ex = 0
  · rw [if_pos h, h]; simp [Scalar.select, Ideal.cmp]
  · rw [if_neg h]; simp [Scalar.select, Ideal.cmp, h]

/-- The value of a code by its three fields. -/
theorem nibble_fields (v : BitVec 32) (man ex : ℤ) (hm : (IntOp.andi v 1#32).toInt = man)
    (he : (IntOp.andi (IntOp.shrsi .host v 1#32) 3#32).toInt = ex) :
    nibble v = (((if IntOp.cmpi .sge v 8#32 = 1 then -1 else 1) * (if (ex : ℝ) = 0 then (man : ℝ) / 2 else (1 + man / 2) * Real.rpow 2 (ex - 1)) : ℝ) : EReal) := by
  unfold nibble
  rw [show (FloatOps.sitofp .f32 (IntOp.andi v 1#32) : Ideal .f32) = ((man : ℝ) : EReal) from hm ▸ rfl,
    show (FloatOps.sitofp .f32 (IntOp.andi (IntOp.shrsi .host v 1#32) 3#32) : Ideal .f32) = ((ex : ℝ) : EReal) from he ▸ rfl, magnitude_real]
  unfold Scalar.select
  split
  · change -(_ : EReal) = _; rw [neg_one_mul, EReal.coe_neg]
  · rw [one_mul]

/-- The sixteen values, from the sign, the exponent field and the mantissa bit. -/
def table (n : Fin 16) : ℝ :=
  (if 8 ≤ n.val then -1 else 1) * (if n.val / 2 % 4 = 0 then ((n.val % 2 : ℕ) : ℝ) / 2
    else (1 + ((n.val % 2 : ℕ) : ℝ) / 2) * (2 : ℝ) ^ (((n.val / 2 % 4 : ℕ) : ℤ) - 1))

/-- The mantissa bit, the exponent field and the sign of a four-bit code, as the reference extracts them. -/
theorem code_fields : ∀ n : Fin 16, (IntOp.andi (BitVec.ofNat 32 n.val) 1#32).toInt = ((n.val % 2 : ℕ) : ℤ)
    ∧ (IntOp.andi (IntOp.shrsi .host (BitVec.ofNat 32 n.val) 1#32) 3#32).toInt = ((n.val / 2 % 4 : ℕ) : ℤ)
    ∧ (IntOp.cmpi .sge (BitVec.ofNat 32 n.val) 8#32 = 1 ↔ 8 ≤ n.val) := by decide +kernel

/-- The reference's value of a code is the table's. -/
theorem nibble_eq (n : Fin 16) : nibble (BitVec.ofNat 32 n.val) = ((table n : ℝ) : EReal) := by
  obtain ⟨hm, he, hs⟩ := code_fields n
  rw [nibble_fields _ _ _ hm he, table]
  refine congrArg _ ?_
  simp only [hs]
  have hp : Real.rpow 2 (((n.val / 2 % 4 : ℕ) : ℤ) - 1) = (2 : ℝ) ^ (((n.val / 2 % 4 : ℕ) : ℤ) - 1) := by
    rw [← Real.rpow_intCast]; push_cast; rfl
  have h0 : ((((n.val / 2 % 4 : ℕ) : ℤ) : ℝ) = 0) = (n.val / 2 % 4 = 0) := by
    rw [Int.cast_natCast, Nat.cast_eq_zero]
  simp only [Int.cast_natCast] at hp h0 ⊢
  simp only [hp, h0]

/-- The fields of a code's bf16 word: the code's sign; the exponent and the significand of its magnitude. -/
theorem word_fields : ∀ n : Fin 16,
    (((e2m1Word (BitVec.ofNat 32 n.val)).extractLsb' 0 16).extractLsb' 15 1 == 1#1) = decide (8 ≤ n.val)
    ∧ (((e2m1Word (BitVec.ofNat 32 n.val)).extractLsb' 0 16).extractLsb' 7 8).toNat = (if n.val % 8 = 0 then 0 else if n.val % 8 = 1 then 126 else 126 + n.val / 2 % 4)
    ∧ (((e2m1Word (BitVec.ofNat 32 n.val)).extractLsb' 0 16).extractLsb' 0 7).toNat = (if n.val % 8 = 0 ∨ n.val % 8 = 1 then 0 else 64 * (n.val % 2)) := by
  decide +kernel

/-- A code's bf16 word denotes the table's value. -/
theorem word_eq (n : Fin 16) : Ideal.ofBits .bf16 ((e2m1Word (BitVec.ofNat 32 n.val)).extractLsb' 0 16) = ((table n : ℝ) : EReal) := by
  obtain ⟨hs, he, hf⟩ := word_fields n
  change Ideal.ieee 8 7 _ = _
  unfold Ideal.ieee
  simp only [show 8 + 7 = 15 from rfl, hs, he, hf, table]
  fin_cases n <;> norm_num [-EReal.coe_mul, -EReal.coe_neg]

/-- Half `h` of a code byte's word is the word of the byte's code `h`. -/
theorem codeWord_half : ∀ (b : BitVec 8) (h : Fin 2), (codeWord b).extractLsb' (16 * h.val) 16 = (e2m1Word (code b h.val)).extractLsb' 0 16 := by
  decide +kernel

/-- Either code of a byte is a number below sixteen. -/
theorem code_lt : ∀ (b : BitVec 8) (h : Fin 2), code b h.val = BitVec.ofNat 32 (code b h.val).toNat ∧ (code b h.val).toNat < 16 := by
  decide +kernel

/-- Both halves of a scale byte's word are the byte in the exponent field. -/
theorem scaleWord_half : ∀ (s : BitVec 8) (h : Fin 2), (scaleWord s).extractLsb' (16 * h.val) 16 = (s.setWidth 16) <<< 7 := by
  decide +kernel

/-- A scale byte's bfloat16 word has sign 0, the byte as its exponent field and mantissa 0. -/
theorem scaleWord_fields : ∀ s : BitVec 8, ((s.setWidth 16) <<< 7).extractLsb' 15 1 = 0#1 ∧ (((s.setWidth 16) <<< 7).extractLsb' 7 8) = s
    ∧ ((s.setWidth 16) <<< 7).extractLsb' 0 7 = 0#7 := by
  decide +kernel

/-- A code's value is the same real number on both sides. -/
theorem code_value (b : BitVec 8) (h : Fin 2) : ∃ r : ℝ, nibble (code b h.val) = ((r : ℝ) : EReal)
    ∧ Ideal.ofBits .bf16 ((codeWord b).extractLsb' (16 * h.val) 16) = ((r : ℝ) : EReal) := by
  obtain ⟨e, l⟩ := code_lt b h
  refine ⟨table ⟨_, l⟩, ?_, ?_⟩
  · exact (congrArg nibble e).trans (nibble_eq ⟨_, l⟩)
  · rw [codeWord_half]; exact (congrArg (fun v => Ideal.ofBits .bf16 ((e2m1Word v).extractLsb' 0 16)) e).trans (word_eq ⟨_, l⟩)

/-- The reference's value of a scale byte is a power of two. -/
theorem scale_real (s : BitVec 8) : scale s = (((2 : ℝ) ^ ((s.toNat : ℤ) - 127) : ℝ) : EReal) := by
  have hi : ∀ s : BitVec 8, (IntOp.subi (s.setWidth 32) 127#32).toInt = (s.toNat : ℤ) - 127 := by decide +kernel
  unfold scale
  rw [two_f32, show (FloatOps.sitofp .f32 (IntOp.subi (s.setWidth 32) 127#32) : Ideal .f32) = (((s.toNat : ℤ) - 127 : ℤ) : ℝ) from hi s ▸ rfl]
  change Ideal.pow ((2 : ℝ) : EReal) (((((s.toNat : ℤ) - 127 : ℤ) : ℝ)) : EReal) = _
  rw [Ideal.pow_coe_coe, ← Real.rpow_intCast]
  rfl

/-- Away from the first and the last scale byte the kernel's word denotes the reference's scale. -/
theorem scale_value (s : BitVec 8) (h : Fin 2) (h0 : s ≠ 0#8) (h1 : s ≠ 255#8) :
    Ideal.ofBits .bf16 ((scaleWord s).extractLsb' (16 * h.val) 16) = scale s := by
  obtain ⟨hs, he, hf⟩ := scaleWord_fields s
  rw [scaleWord_half, scale_real]
  change Ideal.ieee 8 7 _ = _
  unfold Ideal.ieee
  simp only [show 8 + 7 = 15 from rfl, hs, he, hf]
  have n1 : ¬ s.toNat = 2 ^ 8 - 1 := fun e => h1 (BitVec.eq_of_toNat_eq e)
  have n0 : ¬ s.toNat = 0 := fun e => h0 (BitVec.eq_of_toNat_eq e)
  rw [if_neg n1, if_neg n0]
  refine congrArg _ ?_
  have e2 : ((s.toNat : ℤ) - (2 ^ (8 - 1) - 1) - (7 : ℕ) : ℤ) = ((s.toNat : ℤ) - 127) - 7 := by norm_num
  rw [e2, zpow_sub₀ (by norm_num : (2 : ℝ) ≠ 0)]
  norm_num
  ring

/-- A byte without magnitude bits holds the codes 0 (zero) and 8 (minus zero) only. -/
theorem zero_code : ∀ (b : BitVec 8) (h : Fin 2), IntOp.andi (b.setWidth 32) 119#32 = 0#32 →
    code b h.val = 0#32 ∨ code b h.val = 8#32 := by decide +kernel

/-- A byte whose two codes are both a zero has the reference's value 0 for either. -/
theorem zero_nibble (b : BitVec 8) (h : Fin 2) (hz : IntOp.andi (b.setWidth 32) 119#32 = 0#32) : nibble (code b h.val) = (0 : EReal) := by
  rcases zero_code b h hz with e | e
  · rw [e]; refine (nibble_eq 0).trans ?_; simp [table]
  · rw [e]; refine (nibble_eq 8).trans ?_; simp [table]

/-- THE WEIGHT: the kernel's value of a weight is the reference's, if its scale byte is neither 0 nor 255 or its code byte holds zeros. -/
theorem weight_eq (b s : BitVec 8) (h : Fin 2)
    (hyp : IntOp.andi (b.setWidth 32) 119#32 = 0#32 ∨ (s ≠ 0#8 ∧ s ≠ 255#8)) :
    wt b h.val s = (nibble (code b h.val) : EReal) * scale s := by
  unfold wt
  obtain ⟨r, hr, hw⟩ := code_value b h
  rw [hw, ← hr]
  rcases hyp with hz | ⟨h0, h1⟩
  · rw [zero_nibble b h hz, zero_mul, zero_mul]
  · rw [scale_value s h h0 h1]

end Cert.Decode
end
-- ==== Proof.Equation.lean ====
/-
  The reference's result at an index, the precondition read at a weight, and the equality of the two programs' results.
-/
module

public import proofs.«01_k».proof.Proof.IdealValue
public import proofs.«01_k».proof.Proof.Decode
public import proofs.«01_k».proof.Proof.Gen.ReferenceIdeal.Run
public import proofs.«01_k».proof.Proof.Gen.Pre_normal_scales
public import Idealize.ShloMosaic.Lib.ReduceAll
public import Idealize.ShloMosaic.Lib.Pipeline.Value

@[expose] public section

set_option maxRecDepth 16384

noncomputable section

namespace Cert.Equation

open Idealize.ShloMosaic Idealize.ShloMosaic.TcCoe Idealize.ShloMosaic.ValueIdx Idealize.SL.Sem
open Cert.ReferenceIdeal Cert.ReferenceIdeal.Gen Cert.Decode
open Cert.KernelIdeal.Hand (G wt)
open scoped BigOperators

/-! ## The precondition -/

/-- Whether a code byte holds zeros only, as the precondition computes it (it then takes all sixteen bytes of a block). -/
def zeroBlocks (codes : IVec S768x30592 8) : IVec S48x16x30592 1 :=
  cmpi .eq (andi (shapeCast S48x16x30592 (extui 32 codes Cert.Pre_normal_scales.Gen.natLt_8_32) Cert.Pre_normal_scales.Gen.shapeCasts_S768x30592_S48x16x30592)
    (broadcastInDim S48x16x30592 ![] Cert.Pre_normal_scales.Gen.bcast_S_S48x16x30592 (constantI S_ 32 119#32)))
    (broadcastInDim S48x16x30592 ![] Cert.Pre_normal_scales.Gen.bcast_S_S48x16x30592 (constantI S_ 32 0#32))
/-- Whether a scale byte is neither 0 nor 255, as the precondition computes it. -/
def normalBlocks (scales : IVec S48x30592 8) : IVec S48x30592 1 :=
  andi (cmpi .ne scales (broadcastInDim S48x30592 ![] Cert.Pre_normal_scales.Gen.bcast_S_S48x30592 (constantI S_ 8 0#8)))
    (cmpi .ne scales (broadcastInDim S48x30592 ![] Cert.Pre_normal_scales.Gen.bcast_S_S48x30592 (constantI S_ 8 255#8)))

/-- The precondition's function, with its two parts named. -/
theorem pre_eq (x : FVec Ideal S128x1x1536 .bf16) (codes : IVec S768x30592 8) (scales : IVec S48x30592 8) :
    Cert.Pre_normal_scales.fn (F := Ideal) x codes scales
      = Host.reduce IntOp.andi (ori (Host.reduce IntOp.andi (zeroBlocks codes) (constantI S_ 1 1#1)
            Cert.Pre_normal_scales.Gen.reducesTo_S48x16x30592_S48x30592_d1 Cert.Pre_normal_scales.Gen.h_S_) (normalBlocks scales))
          (constantI S_ 1 1#1) Cert.Pre_normal_scales.Gen.reducesTo_S48x30592_S_d0_1 Cert.Pre_normal_scales.Gen.h_S_ := rfl

/-- What the precondition says of the code byte of one weight pair and the scale byte of its block. -/
theorem pre_read (x : FVec Ideal S128x1x1536 .bf16) (codes : IVec S768x30592 8) (scales : IVec S48x30592 8)
    (h : Cert.Pre_normal_scales.fn (F := Ideal) x codes scales = fun _ => 1#1) (g : Fin 48) (j : Fin 16) (n : Fin 30592) :
    IntOp.andi ((codes (ix2 ⟨16 * g.val + j.val, by omega⟩ n)).setWidth 32) 119#32 = 0#32
      ∨ (scales (ix2 g n) ≠ 0#8 ∧ scales (ix2 g n) ≠ 255#8) := by
  have hs : Subsingleton S_.Idx := ⟨fun a b => funext fun i => i.elim0⟩
  rw [pre_eq] at h
  have e := Host.reduce_andi_all _ _ _ _ ix0 (congrFun h ix0) (ix2 g n)
  rcases IntOp.ori_eq_one.1 e with e | e
  · left
    have e' := Host.reduce_andi_eq_one (zeroBlocks codes) _ _ _ (ix2 g n) e (ix3 g j n) (by
      funext a; apply Fin.ext
      match a with
      | ⟨0, _⟩ => exact Shape.ReducesTo.drop_apply_val_of_eq Cert.Pre_normal_scales.Gen.reducesTo_S48x16x30592_S48x30592_d1 (ix3 g j n) 0 0
      | ⟨1, _⟩ => exact Shape.ReducesTo.drop_apply_val_of_eq Cert.Pre_normal_scales.Gen.reducesTo_S48x16x30592_S48x30592_d1 (ix3 g j n) 1 2)
    have e'' := IntOp.cmpi_eq.1 e'
    refine Eq.trans (congrArg (IntOp.andi · 119#32) ?_) e''
    refine (shapeCast_apply (extui 32 codes _) _ (ix3 g j n) (ix2 ⟨16 * g.val + j.val, by omega⟩ n) ?_).symm
    rw [Shape.rowMajor_val_two, Shape.rowMajor_val_three]
    change (16 * g.val + j.val) * 30592 + n.val = (g.val * 16 + j.val) * 30592 + n.val
    omega
  · right
    obtain ⟨e0, e1⟩ := IntOp.andi_eq_one.1 e
    exact ⟨IntOp.cmpi_ne.1 e0, IntOp.cmpi_ne.1 e1⟩

/-! ## The reference's result -/

/-- The codes, as the reference stacks them: the bytes' low halves, then their high halves. -/
def codesArr (codes : IVec S768x30592 8) : IVec S2x48x16x30592 32 :=
  concatenate S2x48x16x30592 0
    [⟨S1x48x16x30592, broadcastInDim S1x48x16x30592 ![1, 2, 3] bcast_S48x16x30592_S1x48x16x30592_1_2_3
      (andi (shapeCast S48x16x30592 (extui 32 codes natLt_8_32) shapeCasts_S768x30592_S48x16x30592) (broadcastInDim S48x16x30592 ![] bcast_S_S48x16x30592 (constantI S_ 32 15#32)))⟩,
     ⟨S1x48x16x30592, broadcastInDim S1x48x16x30592 ![1, 2, 3] bcast_S48x16x30592_S1x48x16x30592_1_2_3
      (Host.shrsi (shapeCast S48x16x30592 (extui 32 codes natLt_8_32) shapeCasts_S768x30592_S48x16x30592) (broadcastInDim S48x16x30592 ![] bcast_S_S48x16x30592 (constantI S_ 32 4#32)))⟩]
    concatenates_S1x48x16x30592_S1x48x16x30592_S2x48x16x30592_d0

/-- The reference's weights. -/
def weightsArr (codes : IVec S768x30592 8) (scales : IVec S48x30592 8) : FVec Ideal S2x48x16x30592 .bf16 :=
  fun i => (nibble (codesArr codes i) : EReal)
    * broadcastInDim S2x48x16x30592 ![0, 1, 2, 3] bcast_S1x48x1x30592_S2x48x16x30592_0_1_2_3
        (shapeCast S1x48x1x30592 (fun k => (scale (scales k) : EReal)) shapeCasts_S48x30592_S1x48x1x30592) i

/-- The reference's result is its product of the reshaped activations and its weights. -/
theorem res_eq (m : (ℓ : Loc nD τ sig) → Buf (Elt Ideal) ℓ) (c : Dev nD) :
    Value.res_main_v49 m c = shapeCast S128x1x30592 (Host.dotGeneral (F := Ideal) (φ₁ := .bf16) (φ₂ := .bf16) dot_S128x48x16x2_S2x48x16x30592_S128x30592_123_120_0_3_n_n none
      (shapeCast S128x48x16x2 (m ((c.tc : Thread nD τ).loc main_arg0)) shapeCasts_S128x1x1536_S128x48x16x2)
      (weightsArr (m ((c.tc : Thread nD τ).loc main_arg1)) (m ((c.tc : Thread nD τ).loc main_arg2)))) shapeCasts_S128x30592_S128x1x30592 := rfl

/-- The stacked codes at an index. -/
theorem codesArr_apply (codes : IVec S768x30592 8) (p : Fin 2) (g : Fin 48) (j : Fin 16) (n : Fin 30592) :
    codesArr codes (ix4 p g j n) = code (codes (ix2 ⟨16 * g.val + j.val, by omega⟩ n)) p.val := by
  have hc : shapeCast S48x16x30592 (extui 32 codes natLt_8_32) shapeCasts_S768x30592_S48x16x30592 (ix3 g j n)
      = (codes (ix2 ⟨16 * g.val + j.val, by omega⟩ n)).setWidth 32 := by
    refine shapeCast_apply (extui 32 codes _) _ (ix3 g j n) (ix2 ⟨16 * g.val + j.val, by omega⟩ n) ?_
    rw [Shape.rowMajor_val_two, Shape.rowMajor_val_three]
    change (16 * g.val + j.val) * 30592 + n.val = (g.val * 16 + j.val) * 30592 + n.val
    omega
  have hb (y : IVec S48x16x30592 32) : broadcastInDim S1x48x16x30592 ![1, 2, 3] bcast_S48x16x30592_S1x48x16x30592_1_2_3 y (ix4 0 g j n) = y (ix3 g j n) :=
    broadcastInDim_apply _ _ _ _ _ fun a => by
      match a with
      | ⟨0, _⟩ => rfl
      | ⟨1, _⟩ => rfl
      | ⟨2, _⟩ => rfl
  unfold codesArr
  match p with
  | ⟨0, _⟩ =>
    refine (concatenate_pair_apply_left (t := S2x48x16x30592) 0 _ _ concatenates_S1x48x16x30592_S1x48x16x30592_S2x48x16x30592_d0
      (ix4 0 g j n) rfl (ix4 0 g j n) fun d => ?_).trans ((hb _).trans ?_)
    · match d with
      | ⟨0, _⟩ => rfl
      | ⟨1, _⟩ => rfl
      | ⟨2, _⟩ => rfl
      | ⟨3, _⟩ => rfl
    · exact congrArg (IntOp.andi · 15#32) hc
  | ⟨1, _⟩ =>
    refine (concatenate_pair_apply_right (t := S2x48x16x30592) 0 _ _ concatenates_S1x48x16x30592_S1x48x16x30592_S2x48x16x30592_d0
      (ix4 1 g j n) rfl rfl (ix4 0 g j n) (fun d hd => ?_) ?_).trans ((hb _).trans ?_)
    · match d with
      | ⟨0, _⟩ => exact absurd rfl hd
      | ⟨1, _⟩ => rfl
      | ⟨2, _⟩ => rfl
      | ⟨3, _⟩ => rfl
    · rfl
    · exact congrArg (IntOp.shrsi .host · 4#32) hc

/-- The reference's weights at an index. -/
theorem weightsArr_apply (codes : IVec S768x30592 8) (scales : IVec S48x30592 8) (p : Fin 2) (g : Fin 48) (j : Fin 16) (n : Fin 30592) :
    weightsArr codes scales (ix4 p g j n)
      = (nibble (code (codes (ix2 ⟨16 * g.val + j.val, by omega⟩ n)) p.val) : EReal) * scale (scales (ix2 g n)) := by
  unfold weightsArr
  rw [codesArr_apply]
  refine congrArg _ ?_
  refine (broadcastInDim_apply _ _ _ (ix4 p g j n) (ix4 0 g 0 n) fun a => ?_).trans ?_
  · match a with
    | ⟨0, _⟩ => rfl
    | ⟨1, _⟩ => rfl
    | ⟨2, _⟩ => rfl
    | ⟨3, _⟩ => rfl
  · refine shapeCast_apply (fun k => (scale (scales k) : EReal)) _ (ix4 0 g 0 n) (ix2 g n) ?_
    rw [Shape.rowMajor_val_two, Shape.rowMajor_val_four]
    change g.val * 30592 + n.val = ((0 * 48 + g.val) * 1 + 0) * 30592 + n.val
    omega

/-- The contraction's dimension numbers: the activations' last three axes against the weights' block, pair and half axes. -/
abbrev D := dot_S128x48x16x2_S2x48x16x30592_S128x30592_123_120_0_3_n_n

/-- The weight row of a contraction index: its row-major position. -/
def row (q : D.contr.Idx) : Fin 1536 := (D.contr.rowMajor q).cast (by decide)

/-- The row of block `g`, pair `j` and half `p` is `32 g + 2 j + p`. -/
theorem row_val (q : D.contr.Idx) : (row q).val = ((q ⟨0, by decide⟩).val * 16 + (q ⟨1, by decide⟩).val) * 2 + (q ⟨2, by decide⟩).val :=
  Shape.rowMajor_val_three (d := fun a => D.contr.size a) q

/-- One product of the reference's contraction, at the weight row `row q`. -/
theorem term_eq (x : FVec Ideal S128x1x1536 .bf16) (codes : IVec S768x30592 8) (scales : IVec S48x30592 8) (r : Fin 128) (n : Fin 30592) (q : D.contr.Idx) :
    (shapeCast S128x48x16x2 x shapeCasts_S128x1x1536_S128x48x16x2 (D.lhsIdx (ix2 r n) q) : EReal) * weightsArr codes scales (D.rhsIdx (ix2 r n) q)
      = x (ix3 r 0 (row q)) * ((nibble (code (codes (ix2 ⟨(row q).val / 2, by omega⟩ n)) ((row q).val % 2)) : EReal)
          * scale (scales (ix2 ⟨(row q).val / 32, by omega⟩ n))) := by
  have h0 : (q ⟨0, by decide⟩).val < 48 := (q ⟨0, by decide⟩).isLt
  have h1 : (q ⟨1, by decide⟩).val < 16 := (q ⟨1, by decide⟩).isLt
  have h2 : (q ⟨2, by decide⟩).val < 2 := (q ⟨2, by decide⟩).isLt
  have hv := row_val q
  have hl : D.lhsIdx (ix2 r n) q = ix4 r ⟨(q ⟨0, by decide⟩).val, h0⟩ ⟨(q ⟨1, by decide⟩).val, h1⟩ ⟨(q ⟨2, by decide⟩).val, h2⟩ := by
    funext a; apply Fin.ext
    match a with
    | ⟨0, _⟩ => rfl
    | ⟨1, _⟩ => rfl
    | ⟨2, _⟩ => rfl
    | ⟨3, _⟩ => rfl
  have hr : D.rhsIdx (ix2 r n) q = ix4 ⟨(q ⟨2, by decide⟩).val, h2⟩ ⟨(q ⟨0, by decide⟩).val, h0⟩ ⟨(q ⟨1, by decide⟩).val, h1⟩ n := by
    funext a; apply Fin.ext
    match a with
    | ⟨0, _⟩ => rfl
    | ⟨1, _⟩ => rfl
    | ⟨2, _⟩ => rfl
    | ⟨3, _⟩ => rfl
  rw [hl, hr, weightsArr_apply]
  refine congrArg₂ (· * ·) ?_ ?_
  · refine shapeCast_apply x _ _ (ix3 r 0 (row q)) ?_
    rw [Shape.rowMajor_val_three, Shape.rowMajor_val_four]
    change (r.val * 1 + 0) * 1536 + (row q).val = ((r.val * 48 + (q ⟨0, by decide⟩).val) * 16 + (q ⟨1, by decide⟩).val) * 2 + (q ⟨2, by decide⟩).val
    omega
  · refine congrArg₂ (fun b s => (nibble b : EReal) * scale s) (congrArg₂ code (congrArg codes (congrArg (ix2 · n) (Fin.ext ?_))) ?_)
      (congrArg scales (congrArg (ix2 · n) (Fin.ext ?_)))
    · change 16 * (q ⟨0, by decide⟩).val + (q ⟨1, by decide⟩).val = (row q).val / 2; omega
    · change (q ⟨2, by decide⟩).val = (row q).val % 2; omega
    · change (q ⟨0, by decide⟩).val = (row q).val / 32; omega

/-- The reference's product at an index: the sum over the 1536 weight rows. -/
theorem product_apply (x : FVec Ideal S128x1x1536 .bf16) (codes : IVec S768x30592 8) (scales : IVec S48x30592 8) (r : Fin 128) (n : Fin 30592) :
    Host.dotGeneral (F := Ideal) (φ₁ := .bf16) (φ₂ := .bf16) D none (shapeCast S128x48x16x2 x shapeCasts_S128x1x1536_S128x48x16x2) (weightsArr codes scales) (ix2 r n)
      = ∑ k : Fin 1536, x (ix3 r 0 k) * ((nibble (code (codes (ix2 ⟨k.val / 2, by omega⟩ n)) (k.val % 2)) : EReal) * scale (scales (ix2 ⟨k.val / 32, by omega⟩ n))) := by
  refine (Ideal.dotGeneral_apply D none .single _ _ _).trans ?_
  refine (Finset.sum_congr rfl fun q _ => term_eq x codes scales r n q).trans ?_
  exact Equiv.sum_comp (D.contr.rowMajor.trans (finCongr (by decide)))
    (fun k : Fin 1536 => x (ix3 r 0 k) * ((nibble (code (codes (ix2 ⟨k.val / 2, by omega⟩ n)) (k.val % 2)) : EReal) * scale (scales (ix2 ⟨k.val / 32, by omega⟩ n))))

/-- THE EQUATION: under the precondition the kernel's product is the reference's, element by element. -/
theorem products_eq (x : FVec Ideal S128x1x1536 .bf16) (codes : IVec S768x30592 8) (scales : IVec S48x30592 8)
    (h : Cert.Pre_normal_scales.fn (F := Ideal) x codes scales = fun _ => 1#1) :
    G (shapeCast Cert.KernelIdeal.S128x1536 x Cert.KernelIdeal.Gen.shapeCasts_S128x1x1536_S128x1536) codes scales
      = Host.dotGeneral (F := Ideal) (φ₁ := .bf16) (φ₂ := .bf16) D none (shapeCast S128x48x16x2 x shapeCasts_S128x1x1536_S128x48x16x2) (weightsArr codes scales) := by
  funext i
  obtain ⟨r, n, rfl⟩ : ∃ (r : Fin 128) (n : Fin 30592), i = ix2 r n := ⟨i 0, i 1, eq_ix2 i⟩
  rw [product_apply]
  refine Finset.sum_congr rfl fun k _ => ?_
  refine congrArg₂ (· * ·) ?_ ?_
  · refine shapeCast_apply x _ (ix2 r k) (ix3 r 0 k) ?_
    rw [Shape.rowMajor_val_three, Shape.rowMajor_val_two]
    change (r.val * 1 + 0) * 1536 + k.val = r.val * 1536 + k.val
    omega
  · have e := pre_read x codes scales h ⟨k.val / 32, by omega⟩ ⟨k.val / 2 % 16, by omega⟩ n
    have hk : (⟨16 * (k.val / 32) + k.val / 2 % 16, by omega⟩ : Fin 768) = ⟨k.val / 2, by omega⟩ := Fin.ext (by change 16 * (k.val / 32) + k.val / 2 % 16 = k.val / 2; omega)
    rw [hk] at e
    exact weight_eq _ _ ⟨k.val % 2, by omega⟩ e

/-- The two programs' results are equal when their arguments are and the precondition holds of them. -/
theorem results_eq (m : (ℓ : Loc Cert.KernelIdeal.nD Cert.KernelIdeal.τ Cert.KernelIdeal.sig) → Buf (Elt Ideal) ℓ)
    (m' : (ℓ : Loc nD τ sig) → Buf (Elt Ideal) ℓ) (c : Dev nD)
    (h : Cert.Pre_normal_scales.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1)
    (e0 : m' ((c.tc : Thread nD τ).loc main_arg0) = m ((c.tc : Thread Cert.KernelIdeal.nD Cert.KernelIdeal.τ).loc Cert.KernelIdeal.main_arg0))
    (e1 : m' ((c.tc : Thread nD τ).loc main_arg1) = m ((c.tc : Thread Cert.KernelIdeal.nD Cert.KernelIdeal.τ).loc Cert.KernelIdeal.main_arg1))
    (e2 : m' ((c.tc : Thread nD τ).loc main_arg2) = m ((c.tc : Thread Cert.KernelIdeal.nD Cert.KernelIdeal.τ).loc Cert.KernelIdeal.main_arg2)) :
    Value.res_main_v49 m' c = Cert.KernelIdeal.Hand.result m c := by
  rw [res_eq, e0, e1, e2]
  exact congrArg (fun y => shapeCast S128x1x30592 y shapeCasts_S128x30592_S128x1x30592) (products_eq _ _ _ h).symm

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_normal_scales
public import proofs.«01_k».proof.Proof.KernelFrame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run also ends with every counter at zero: it declares none. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run m ρ)

/-- The idealization's run, without its value. -/
theorem ideal_frame (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun r h => ⟨fun c => (h.1 c).2, h.2⟩) (Cert.KernelIdeal.Hand.run m ρ)

/-- Every claim of the certificate. -/
theorem claim : Cert.Claim := by
  refine ⟨Cert.Kernel.Gen.facts, Cert.KernelIdeal.Gen.facts, Cert.ReferenceIdeal.Gen.facts, Cert.Pre_normal_scales.Gen.facts, ?_, ?_, ?_, ?_, ?_, trivial, ?_⟩
  · exact fun m ρ _ => Cert.Kernel.Hand.frame m ρ
  · exact fun m ρ _ => ideal_frame m ρ
  · exact fun m ρ _ => ideal_frame m ρ
  · exact fun m ρ _ => reference_run m ρ
  · exact fun m ρ _ => reference_run m ρ
  · intro m ρ m' ρ' hpre hag
    refine ⟨Cert.KernelIdeal.Hand.result m, ?_, ?_⟩
    · exact (θ_run _ _ _).mono (fun r h => h.1) (Cert.KernelIdeal.Hand.run m ρ)
    · exact (θ_run _ _ _).mono (fun r h c => ⟨(h c).1.trans (Cert.Equation.results_eq m m' c (hpre c) (hag c).1 (hag c).2.1 (hag c).2.2), (h c).2⟩)
        (Cert.ReferenceIdeal.Value.run m' ρ')

end Cert.Proof

end
